-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x14080 : Shape := ⟨3, ![128, 1, 14080]⟩
abbrev S7040x5888 : Shape := ⟨2, ![7040, 5888]⟩
abbrev S110x5888 : Shape := ⟨2, ![110, 5888]⟩
abbrev S128x14080 : Shape := ⟨2, ![128, 14080]⟩
abbrev S128x5888 : Shape := ⟨2, ![128, 5888]⟩
abbrev S7040x256 : Shape := ⟨2, ![7040, 256]⟩
abbrev S110x256 : Shape := ⟨2, ![110, 256]⟩
abbrev S128x256 : Shape := ⟨2, ![128, 256]⟩
abbrev S256x256 : Shape := ⟨2, ![256, 256]⟩
abbrev S640x256 : Shape := ⟨2, ![640, 256]⟩
abbrev S640x1x256 : Shape := ⟨3, ![640, 1, 256]⟩
abbrev S640x2x256 : Shape := ⟨3, ![640, 2, 256]⟩
abbrev S1280x256 : Shape := ⟨2, ![1280, 256]⟩
abbrev S10x256 : Shape := ⟨2, ![10, 256]⟩
abbrev S10x128x256 : Shape := ⟨3, ![10, 128, 256]⟩
abbrev S10x1x256 : Shape := ⟨3, ![10, 1, 256]⟩
abbrev S128x1280 : Shape := ⟨2, ![128, 1280]⟩

abbrev nBuf : Space → Nat
  | .hbm => 5
  | .vmem => 8
  | .smem => 0
  | _ => 0

abbrev bufTy : (tb : Table) → Fin (tcTables nBuf tb) → BufTy
  | .hbm, ⟨0, _⟩ => ⟨S128x1x14080, .bf16⟩
  | .hbm, ⟨1, _⟩ => ⟨S7040x5888, .i8⟩
  | .hbm, ⟨2, _⟩ => ⟨S110x5888, .bf16⟩
  | .hbm, ⟨3, _⟩ => ⟨S128x14080, .bf16⟩
  | .hbm, ⟨4, _⟩ => ⟨S128x5888, .bf16⟩
  | .local _ .vmem, ⟨0, _⟩ => ⟨S128x14080, .bf16⟩
  | .local _ .vmem, ⟨1, _⟩ => ⟨S7040x256, .i8⟩
  | .local _ .vmem, ⟨2, _⟩ => ⟨S7040x256, .i8⟩
  | .local _ .vmem, ⟨3, _⟩ => ⟨S110x256, .bf16⟩
  | .local _ .vmem, ⟨4, _⟩ => ⟨S110x256, .bf16⟩
  | .local _ .vmem, ⟨5, _⟩ => ⟨S128x256, .bf16⟩
  | .local _ .vmem, ⟨6, _⟩ => ⟨S128x256, .bf16⟩
  | .local _ .vmem, ⟨7, _⟩ => ⟨S128x14080, .bf16⟩
  | _, _ => ⟨S128x1x14080, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![23], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x14080 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7040x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S110x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x1x14080 : Shape := ⟨3, ![128, 1, 14080]⟩
abbrev S7040x5888 : Shape := ⟨2, ![7040, 5888]⟩
abbrev S110x5888 : Shape := ⟨2, ![110, 5888]⟩
abbrev S2x2 : Shape := ⟨2, ![2, 2]⟩
abbrev S_ : Shape := ⟨0, ![]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S128x1x110x128 : Shape := ⟨4, ![128, 1, 110, 128]⟩
abbrev S110x64x5888 : Shape := ⟨3, ![110, 64, 5888]⟩
abbrev S110x1x5888 : Shape := ⟨3, ![110, 1, 5888]⟩
abbrev S128x1x7040 : Shape := ⟨3, ![128, 1, 7040]⟩
abbrev S128x1x5888 : Shape := ⟨3, ![128, 1, 5888]⟩
abbrev S128x5888 : Shape := ⟨2, ![128, 5888]⟩

abbrev nBuf : Space → Nat
  | .hbm => 87
  | .vmem => 0
  | .smem => 0
  | _ => 0

abbrev bufTy : (tb : Table) → Fin (tcTables nBuf tb) → BufTy
  | .hbm, ⟨0, _⟩ => ⟨S128x1x14080, .bf16⟩
  | .hbm, ⟨1, _⟩ => ⟨S7040x5888, .i8⟩
  | .hbm, ⟨2, _⟩ => ⟨S110x5888, .bf16⟩
  | .hbm, ⟨3, _⟩ => ⟨S2x2, .f32⟩
  | .hbm, ⟨4, _⟩ => ⟨S_, .f32⟩
  | .hbm, ⟨5, _⟩ => ⟨S1x1, .f32⟩
  | .hbm, ⟨6, _⟩ => ⟨S1x1x1x1, .f32⟩
  | .hbm, ⟨7, _⟩ => ⟨S1x2x1x2, .f32⟩
  | .hbm, ⟨8, _⟩ => ⟨S1x2x1x2, .f32⟩
  | .hbm, ⟨9, _⟩ => ⟨S1x2x1x2, .f32⟩
  | .hbm, ⟨10, _⟩ => ⟨S2x2, .f32⟩
  | .hbm, ⟨11, _⟩ => ⟨S2x1x2x1, .f32⟩
  | .hbm, ⟨12, _⟩ => ⟨S1x2x1x2, .f32⟩
  | .hbm, ⟨13, _⟩ => ⟨S2x2x2x2, .f32⟩
  | .hbm, ⟨14, _⟩ => ⟨S2x2x2x2, .f32⟩
  | .hbm, ⟨15, _⟩ => ⟨S2x2x2x2, .f32⟩
  | .hbm, ⟨16, _⟩ => ⟨S4x4, .f32⟩
  | .hbm, ⟨17, _⟩ => ⟨S4x1x4x1, .f32⟩
  | .hbm, ⟨18, _⟩ => ⟨S1x2x1x2, .f32⟩
  | .hbm, ⟨19, _⟩ => ⟨S4x2x4x2, .f32⟩
  | .hbm, ⟨20, _⟩ => ⟨S4x2x4x2, .f32⟩
  | .hbm, ⟨21, _⟩ => ⟨S4x2x4x2, .f32⟩
  | .hbm, ⟨22, _⟩ => ⟨S8x8, .f32⟩
  | .hbm, ⟨23, _⟩ => ⟨S8x1x8x1, .f32⟩
  | .hbm, ⟨24, _⟩ => ⟨S1x2x1x2, .f32⟩
  | .hbm, ⟨25, _⟩ => ⟨S8x2x8x2, .f32⟩
  | .hbm, ⟨26, _⟩ => ⟨S8x2x8x2, .f32⟩
  | .hbm, ⟨27, _⟩ => ⟨S8x2x8x2, .f32⟩
  | .hbm, ⟨28, _⟩ => ⟨S16x16, .f32⟩
  | .hbm, ⟨29, _⟩ => ⟨S16x1x16x1, .f32⟩
  | .hbm, ⟨30, _⟩ => ⟨S1x2x1x2, .f32⟩
  | .hbm, ⟨31, _⟩ => ⟨S16x2x16x2, .f32⟩
  | .hbm, ⟨32, _⟩ => ⟨S16x2x16x2, .f32⟩
  | .hbm, ⟨33, _⟩ => ⟨S16x2x16x2, .f32⟩
  | .hbm, ⟨34, _⟩ => ⟨S32x32, .f32⟩
  | .hbm, ⟨35, _⟩ => ⟨S32x1x32x1, .f32⟩
  | .hbm, ⟨36, _⟩ => ⟨S1x2x1x2, .f32⟩
  | .hbm, ⟨37, _⟩ => ⟨S32x2x32x2, .f32⟩
  | .hbm, ⟨38, _⟩ => ⟨S32x2x32x2, .f32⟩
  | .hbm, ⟨39, _⟩ => ⟨S32x2x32x2, .f32⟩
  | .hbm, ⟨40, _⟩ => ⟨S64x64, .f32⟩
  | .hbm, ⟨41, _⟩ => ⟨S64x1x64x1, .f32⟩
  | .hbm, ⟨42, _⟩ => ⟨S1x2x1x2, .f32⟩
  | .hbm, ⟨43, _⟩ => ⟨S64x2x64x2, .f32⟩
  | .hbm, ⟨44, _⟩ => ⟨S64x2x64x2, .f32⟩
  | .hbm, ⟨45, _⟩ => ⟨S64x2x64x2, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x1x14080, .f32⟩
  | .hbm, ⟨51, _⟩ => ⟨S128x1x110x128, .f32⟩
  | .hbm, ⟨52, _⟩ => ⟨S128x1x110x128, .f32⟩
  | .hbm, ⟨53, _⟩ => ⟨S128x1x14080, .f32⟩
  | .hbm, ⟨54, _⟩ => ⟨S128x1x14080, .bf16⟩
  | .hbm, ⟨55, _⟩ => ⟨S7040x5888, .i32⟩
  | .hbm, ⟨56, _⟩ => ⟨S_, .i32⟩
  | .hbm, ⟨57, _⟩ => ⟨S7040x5888, .i32⟩
  | .hbm, ⟨58, _⟩ => ⟨S7040x5888, .i32⟩
  | .hbm, ⟨59, _⟩ => ⟨S_, .i32⟩
  | .hbm, ⟨60, _⟩ => ⟨S7040x5888, .i32⟩
  | .hbm, ⟨61, _⟩ => ⟨S7040x5888, .i32⟩
  | .hbm, ⟨62, _⟩ => ⟨S_, .i32⟩
  | .hbm, ⟨63, _⟩ => ⟨S7040x5888, .i32⟩
  | .hbm, ⟨64, _⟩ => ⟨S7040x5888, .i32⟩
  | .hbm, ⟨65, _⟩ => ⟨S_, .i32⟩
  | .hbm, ⟨66, _⟩ => ⟨S7040x5888, .i32⟩
  | .hbm, ⟨67, _⟩ => ⟨S7040x5888, .i32⟩
  | .hbm, ⟨68, _⟩ => ⟨S7040x5888, .bf16⟩
  | .hbm, ⟨69, _⟩ => ⟨S110x64x5888, .bf16⟩
  | .hbm, ⟨70, _⟩ => ⟨S110x1x5888, .bf16⟩
  | .hbm, ⟨71, _⟩ => ⟨S110x64x5888, .bf16⟩
  | .hbm, ⟨72, _⟩ => ⟨S110x64x5888, .bf16⟩
  | .hbm, ⟨73, _⟩ => ⟨S7040x5888, .bf16⟩
  | .hbm, ⟨74, _⟩ => ⟨S7040x5888, .bf16⟩
  | .hbm, ⟨75, _⟩ => ⟨S110x64x5888, .bf16⟩
  | .hbm, ⟨76, _⟩ => ⟨S110x1x5888, .bf16⟩
  | .hbm, ⟨77, _⟩ => ⟨S110x64x5888, .bf16⟩
  | .hbm, ⟨78, _⟩ => ⟨S110x64x5888, .bf16⟩
  | .hbm, ⟨79, _⟩ => ⟨S7040x5888, .bf16⟩
  | .hbm, ⟨80, _⟩ => ⟨S128x1x7040, .bf16⟩
  | .hbm, ⟨81, _⟩ => ⟨S128x1x5888, .f32⟩
  | .hbm, ⟨82, _⟩ => ⟨S128x1x7040, .bf16⟩
  | .hbm, ⟨83, _⟩ => ⟨S128x1x5888, .f32⟩
  | .hbm, ⟨84, _⟩ => ⟨S128x1x5888, .f32⟩
  | .hbm, ⟨85, _⟩ => ⟨S128x1x5888, .bf16⟩
  | .hbm, ⟨86, _⟩ => ⟨S128x5888, .bf16⟩
  | _, _ => ⟨S128x1x14080, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v1 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v2 : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_v3 : Ref sig .tc := ⟨.hbm, 22, rfl⟩
abbrev main_call3_v0 : Ref sig .tc := ⟨.hbm, 23, rfl⟩
abbrev main_call3_v1 : Ref sig .tc := ⟨.hbm, 24, rfl⟩
abbrev main_call3_v2 : Ref sig .tc := ⟨.hbm, 25, rfl⟩
abbrev main_call3_v3 : Ref sig .tc := ⟨.hbm, 26, rfl⟩
abbrev main_call3_v4 : Ref sig .tc := ⟨.hbm, 27, rfl⟩
abbrev main_v4 : Ref sig .tc := ⟨.hbm, 28, rfl⟩
abbrev main_call4_v0 : Ref sig .tc := ⟨.hbm, 29, rfl⟩
abbrev main_call4_v1 : Ref sig .tc := ⟨.hbm, 30, rfl⟩
abbrev main_call4_v2 : Ref sig .tc := ⟨.hbm, 31, rfl⟩
abbrev main_call4_v3 : Ref sig .tc := ⟨.hbm, 32, rfl⟩
abbrev main_call4_v4 : Ref sig .tc := ⟨.hbm, 33, rfl⟩
abbrev main_v5 : Ref sig .tc := ⟨.hbm, 34, rfl⟩
abbrev main_call5_v0 : Ref sig .tc := ⟨.hbm, 35, rfl⟩
abbrev main_call5_v1 : Ref sig .tc := ⟨.hbm, 36, rfl⟩
abbrev main_call5_v2 : Ref sig .tc := ⟨.hbm, 37, rfl⟩
abbrev main_call5_v3 : Ref sig .tc := ⟨.hbm, 38, rfl⟩
abbrev main_call5_v4 : Ref sig .tc := ⟨.hbm, 39, rfl⟩
abbrev main_v6 : Ref sig .tc := ⟨.hbm, 40, rfl⟩
abbrev main_call6_v0 : Ref sig .tc := ⟨.hbm, 41, rfl⟩
abbrev main_call6_v1 : Ref sig .tc := ⟨.hbm, 42, rfl⟩
abbrev main_call6_v2 : Ref sig .tc := ⟨.hbm, 43, rfl⟩
abbrev main_call6_v3 : Ref sig .tc := ⟨.hbm, 44, rfl⟩
abbrev main_call6_v4 : Ref sig .tc := ⟨.hbm, 45, rfl⟩
abbrev main_v7 : Ref sig .tc := ⟨.hbm, 46, rfl⟩
abbrev main_cst_1 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_c : Ref sig .tc := ⟨.hbm, 56, rfl⟩
abbrev main_v16 : Ref sig .tc := ⟨.hbm, 57, rfl⟩
abbrev main_v17 : Ref sig .tc := ⟨.hbm, 58, rfl⟩
abbrev main_c_2 : Ref sig .tc := ⟨.hbm, 59, rfl⟩
abbrev main_v18 : Ref sig .tc := ⟨.hbm, 60, rfl⟩
abbrev main_v19 : Ref sig .tc := ⟨.hbm, 61, rfl⟩
abbrev main_c_3 : Ref sig .tc := ⟨.hbm, 62, rfl⟩
abbrev main_v20 : Ref sig .tc := ⟨.hbm, 63, rfl⟩
abbrev main_v21 : Ref sig .tc := ⟨.hbm, 64, rfl⟩
abbrev main_c_4 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩

abbrev nD : Nat := 1
abbrev τ : Topo := Topo.v7x

variable {F : FTy → Type} [FloatOps F]
-- ==== Proof.Hand.Sums.lean ====
/-
  Sums of extended reals and the sign of a Hadamard entry: the mathematics the two programs share, stated with no
  program in sight.
-/
module

public import Idealize.ShloMosaic.PureOps.Ideal.Laws
public import Idealize.ShloMosaic.Lib.ValueIdx
public import Idealize.ShloMosaic.Lib.IdealHost

@[expose] public section

noncomputable section

namespace Cert.Hand

open Idealize.ShloMosaic
open scoped BigOperators

/-! ## Sums -/

/-- The index `n * a + b` lies below `N = m * n`. -/
theorem split_lt {N m n : ℕ} (h : N = m * n) (a : Fin m) (b : Fin n) : n * a.val + b.val < N := by
  subst h
  have ha := a.isLt
  have hb := b.isLt
  calc n * a.val + b.val < n * a.val + n := by omega
    _ = n * (a.val + 1) := by ring
    _ ≤ n * m := Nat.mul_le_mul_left _ ha
    _ = m * n := Nat.mul_comm _ _

/-- A sum over `m * n` positions is the sum over `m` runs of `n` consecutive positions. -/
theorem sum_split {M : Type*} [AddCommMonoid M] {N m n : ℕ} (h : N = m * n) (f : Fin N → M) :
    ∑ i, f i = ∑ a : Fin m, ∑ b : Fin n, f ⟨n * a.val + b.val, split_lt h a b⟩ := by
  subst h
  rw [← Equiv.sum_comp finProdFinEquiv, Fintype.sum_prod_type]
  refine Finset.sum_congr rfl fun a _ => Finset.sum_congr rfl fun b _ => congrArg f (Fin.ext ?_)
  show b.val + n * a.val = n * a.val + b.val
  omega

/-- A sum over `2 * n` positions is the sum over the even ones plus the sum over the odd ones. -/
theorem sum_even_odd {M : Type*} [AddCommMonoid M] {N n : ℕ} (h : N = n * 2) (f : Fin N → M) :
    ∑ i, f i = (∑ a : Fin n, f ⟨2 * a.val, by have := a.isLt; omega⟩)
      + ∑ a : Fin n, f ⟨2 * a.val + 1, by have := a.isLt; omega⟩ := by
  rw [sum_split h, ← Finset.sum_add_distrib]
  refine Finset.sum_congr rfl fun a _ => ?_
  rw [Fin.sum_univ_two]
  rfl

/-- A finite nonnegative factor moves inside a sum of extended reals, from the right. -/
theorem sum_mul_of_nonneg {ι : Type*} (s : Finset ι) (f : ι → EReal) {κ : EReal} (h0 : 0 ≤ κ) (h1 : κ ≠ ⊤) :
    (∑ i ∈ s, f i) * κ = ∑ i ∈ s, f i * κ := by
  classical
  induction s using Finset.induction_on with
  | empty => simp
  | insert a s ha ih =>
    rw [Finset.sum_insert ha, Finset.sum_insert ha, ← ih]
    exact EReal.right_distrib_of_nonneg_of_ne_top h0 h1 _ _

/-- A sum over `2 * 128` positions whose terms vanish outside half `q` is the sum over that half. -/
theorem sum_half (f : Fin 256 → EReal) (q : ℕ) (hq : q < 2) (h0 : ∀ p : Fin 256, p.val / 128 ≠ q → f p = 0) :
    ∑ p, f p = ∑ k : Fin 128, f ⟨128 * q + k.val, by have := k.isLt; omega⟩ := by
  rw [sum_split (show 256 = 2 * 128 from rfl), Finset.sum_eq_single (⟨q, hq⟩ : Fin 2)]
  · intro b _ hb
    refine Finset.sum_eq_zero fun k _ => h0 _ ?_
    have hk := k.isLt
    intro hc
    apply hb
    apply Fin.ext
    show b.val = q
    have hc' : (128 * b.val + k.val) / 128 = q := hc
    omega
  · intro h
    exact absurd (Finset.mem_univ _) h

/-! ## The scale of the rotation -/

/-- The scale of the rotation, `1/√128` rounded to f32, as an extended real. -/
def kappa : EReal := Ideal.ofBits .f32 0x3DB504F3#32

/-- The scale is a nonnegative real. -/
theorem kappa_real : ∃ r : ℝ, 0 ≤ r ∧ kappa = (r : EReal) := by
  unfold kappa
  simp only [Ideal.ofBits, Ideal.ieee]
  rw [if_neg (by decide), if_neg (by decide)]
  refine ⟨_, ?_, rfl⟩
  rw [if_neg (by decide)]
  positivity

/-- The scale is nonnegative. -/
theorem kappa_nonneg : 0 ≤ kappa := by
  obtain ⟨r, h, e⟩ := kappa_real
  rw [e]; exact_mod_cast h

/-- The scale is not `⊤`. -/
theorem kappa_ne_top : kappa ≠ ⊤ := by
  obtain ⟨r, -, e⟩ := kappa_real
  rw [e]; exact EReal.coe_ne_top r

/-! ## The sign of a Hadamard entry -/

/-- The sign at level `k` of a word `v`: `-1` to the number of ones among its `k` low bits. -/
def sgn : ℕ → ℕ → ℤ
  | 0, _ => 1
  | k + 1, v => sgn k (v / 2) * (if v % 2 = 1 then -1 else 1)

/-- The sign as an extended real. -/
def sgnE (k v : ℕ) : EReal := ((sgn k v : ℝ) : EReal)

/-- Level 0 is the matrix with the one entry 1. -/
theorem sgnE_zero (v : ℕ) : sgnE 0 v = 1 := by simp [sgnE, sgn]

/-- One more level multiplies by the sign of the low bit. -/
theorem sgnE_succ (k v : ℕ) : sgnE (k + 1) v = sgnE k (v / 2) * (if v % 2 = 1 then -1 else 1) := by
  unfold sgnE
  rw [sgn]
  split
  · push_cast; rfl
  · push_cast; rfl

/-- The sign of the bits two indices share, split at the low bit. -/
theorem sgnE_and_succ (k i j : ℕ) :
    sgnE (k + 1) (i &&& j) = sgnE k ((i / 2) &&& (j / 2)) * (if i % 2 = 1 ∧ j % 2 = 1 then -1 else 1) := by
  rw [sgnE_succ]
  have h1 : (i &&& j) / 2 = (i / 2) &&& (j / 2) := by
    apply Nat.eq_of_testBit_eq
    intro n
    simp [Nat.testBit_div_two, Nat.testBit_and]
  have h2 : ((i &&& j) % 2 = 1) ↔ (i % 2 = 1 ∧ j % 2 = 1) := by
    have e : ∀ n : ℕ, n % 2 = 1 ↔ n.testBit 0 = true := fun n => by simp [Nat.testBit_zero]
    rw [e, e, e, Nat.testBit_and, Bool.and_eq_true]
  rw [h1]
  simp only [h2]

end Cert.Hand

end
-- ==== Proof.Hand.Rotation.lean ====
/-
  The rotation the kernel applies to one tile of 256 columns: its 256 × 256 matrix read at an index, and one stored
  tile read at an index.
-/
module

public import proofs.«01_k».proof.Proof.Gen.KernelIdeal.Skeleton
public import proofs.«01_k».proof.Proof.Hand.Sums
public import Idealize.ShloMosaic.Lib.Pipeline.Value
public import Idealize.ShloMosaic.Lib.MatmulPlain

@[expose] public section

set_option maxRecDepth 16384

noncomputable section

namespace Cert.Hand

open Cert.KernelIdeal Cert.KernelIdeal.Gen Idealize.ShloMosaic Idealize.ShloMosaic.ValueIdx
open scoped BigOperators

/-! ## The matrix -/

/-- The word `1 - 2 * (parity of v)`, the parity by three folding shifts, as the kernel computes it. -/
def parityW (v : BitVec 32) : BitVec 32 :=
  let a := v ^^^ IntOp.shrsi .vector v 4#32
  let b := a ^^^ IntOp.shrsi .vector a 2#32
  let d := b ^^^ IntOp.shrsi .vector b 1#32
  1#32 - 2#32 * (d &&& 1#32)

/-- On a word of seven bits it is the sign of those bits. -/
theorem parityW_toInt : ∀ v : Fin 128, (parityW (BitVec.ofNat 32 v.val)).toInt = sgn 7 v.val := by
  decide +kernel

/-- The floor quotient of a word by 128, as the kernel computes it. -/
def blockW (x : BitVec 32) : BitVec 32 :=
  let q := IntOp.divsi .vector x 128#32
  let s := Scalar.subi (Scalar.extui (Scalar.cmpi .sgt x 0#32)) (Scalar.extui (Scalar.cmpi .slt x 0#32))
  let t := Scalar.subi (Scalar.extui (Scalar.cmpi .sgt 128#32 0#32)) (Scalar.extui (Scalar.cmpi .slt 128#32 0#32))
  let r := IntOp.remsi .vector x 128#32
  Scalar.select (Scalar.cmpi .ne s t &&& Scalar.cmpi .ne r 0#32) (q - 1#32) q

/-- On an index below 256 it is the index's half. -/
theorem blockW_eq : ∀ p : Fin 256, blockW (BitVec.ofNat 32 p.val) = BitVec.ofNat 32 (p.val / 128) := by
  decide +kernel

/-- The kernel's 256 × 256 matrix: the sign matrix of size 128, twice along the diagonal. -/
def had : FVec Ideal S256x256 .bf16 :=
  k0_pay4 (F := Ideal) (iota .tc S256x256 32 [1] iota_S256x256_d1_w32) k0_pay2 k0_pay3 128#32

/-- The matrix at an index, over the words of the two coordinates. -/
theorem had_word (p q : Fin 256) :
    had (ix2 p q) = Scalar.select (Scalar.cmpi .eq (blockW (BitVec.ofNat 32 p.val)) (blockW (BitVec.ofNat 32 q.val)))
      (((parityW ((BitVec.ofNat 32 p.val &&& BitVec.ofNat 32 q.val) &&& 127#32)).toInt : ℝ) : EReal)
      (Ideal.ofBits .f32 0x00000000#32) := by
  have e0 : iota .tc S256x256 32 [0] iota_S256x256_d0_w32 (ix2 p q) = BitVec.ofNat 32 p.val := by
    rw [iota_single_apply]
  have e1 : iota .tc S256x256 32 [1] iota_S256x256_d1_w32 (ix2 p q) = BitVec.ofNat 32 q.val := by
    rw [iota_single_apply]
  rw [← e0, ← e1]
  rfl

/-- The matrix at an index: the sign of the bits the two coordinates share, where they lie in the same half, and zero
    elsewhere. -/
theorem had_apply (p q : Fin 256) :
    had (ix2 p q) = if p.val / 128 = q.val / 128 then sgnE 7 ((p.val &&& q.val) % 128) else 0 := by
  have hp := p.isLt
  have hq := q.isLt
  have hw : (BitVec.ofNat 32 p.val &&& BitVec.ofNat 32 q.val) &&& 127#32 = BitVec.ofNat 32 ((p.val &&& q.val) % 128) := by
    apply BitVec.eq_of_toNat_eq
    have h1 : p.val % 2 ^ 32 = p.val := Nat.mod_eq_of_lt (by omega)
    have h2 : q.val % 2 ^ 32 = q.val := Nat.mod_eq_of_lt (by omega)
    have h3 : ((p.val &&& q.val) % 128) % 2 ^ 32 = (p.val &&& q.val) % 128 := Nat.mod_eq_of_lt (by omega)
    rw [BitVec.toNat_and, BitVec.toNat_and, BitVec.toNat_ofNat, BitVec.toNat_ofNat, BitVec.toNat_ofNat, BitVec.toNat_ofNat,
      h1, h2, h3]
    exact Nat.and_two_pow_sub_one_eq_mod _ 7
  rw [had_word, blockW_eq, blockW_eq, hw, parityW_toInt ⟨(p.val &&& q.val) % 128, Nat.mod_lt _ (by decide)⟩,
    Ideal.ofBits_zero_f32]
  have hb : Scalar.cmpi .eq (BitVec.ofNat 32 (p.val / 128)) (BitVec.ofNat 32 (q.val / 128))
      = if p.val / 128 = q.val / 128 then 1#1 else 0#1 := by
    have hp2 : p.val / 128 < 2 := by omega
    have hq2 : q.val / 128 < 2 := by omega
    generalize p.val / 128 = a at *
    generalize q.val / 128 = b at *
    interval_cases a <;> interval_cases b <;> rfl
  rw [hb]
  split
  · rw [select_one]; rfl
  · rw [select_zero]

/-! ## One tile -/

/-- What the kernel stores for one tile of 256 columns: the tile times a matrix, times the scale. -/
def tileOf (h : FVec Ideal S256x256 .bf16) (x : Vec Ideal S128x256 .bf16) : FVec Ideal S128x256 .bf16 :=
  shapeCast S128x256 (truncf .bf16 (mulf (matmul dot_S128x256_S256x256_S128x256_1_0_0_1_n_n none
    (shapeCast S128x256 x shapeCasts_S128x256_S128x256 : FVec Ideal S128x256 .bf16) h (constant S128x256 .f32 0x00000000#32))
    (broadcast S128x256 (Scalar.ofBits .f32 0x3DB504F3#32))) bitsLt_bf16_f32) shapeCasts_S128x256_S128x256

/-- A stored tile at an index. -/
theorem tileOf_apply (h : FVec Ideal S256x256 .bf16) (x : Vec Ideal S128x256 .bf16) (r : Fin 128) (q : Fin 256) :
    tileOf h x (ix2 r q) = (∑ p : Fin 256, (x (ix2 r p) : EReal) * h (ix2 p q)) * kappa := by
  unfold tileOf
  rw [shapeCast_self, shapeCast_self]
  show FloatOps.matmul (F := Ideal) (DotDims.plain 128 256 256) none x h (constant S128x256 .f32 0x00000000#32) (ix2 r q) * kappa = _
  rw [Ideal.matmul_plain_apply, constant_apply, Ideal.ofBits_zero_f32, zero_add]

/-- The rotation of a whole block of rows by the kernel's matrix, column `k` in the tile of 256 columns it lies in. -/
def rotTile (x : Vec Ideal S128x14080 .bf16) : Vec Ideal S128x14080 .bf16 := fun i =>
  (∑ p : Fin 256, (x (ix2 (i 0) ⟨256 * ((i 1).val / 256) + p.val, by
      have h : (i 1).val < 14080 := (i 1).isLt
      have := p.isLt
      omega⟩) : EReal) * had (ix2 p ⟨(i 1).val % 256, Nat.mod_lt _ (by decide)⟩)) * kappa

/-- One stored tile, over the tile of `x` at columns `o …`, is the rotation's at those columns. -/
theorem tile_piece (x : Vec Ideal S128x14080 .bf16) (o : ℕ) (ho : 256 ∣ o)
    (inb : ∀ a, (![0, o] : Fin 2 → ℕ) a + S128x256.size a ≤ S128x14080.size a)
    (y : S128x256.Idx) :
    tileOf had (View.ld x (Rect.unit (s := S128x14080) ![0, o] S128x256.size inb)) y
      = rotTile x ((Rect.unit (s := S128x14080) ![0, o] S128x256.size inb).emb y) := by
  obtain ⟨t, rfl⟩ := ho
  have h1 : 256 * t + 256 ≤ 14080 := inb 1
  obtain ⟨r, q, rfl⟩ : ∃ (r : Fin 128) (q : Fin 256), y = ix2 r q := ⟨y 0, y 1, eq_ix2 y⟩
  rw [tileOf_apply]
  have hq := q.isLt
  unfold rotTile
  congr 1
  refine Finset.sum_congr rfl fun p _ => ?_
  have e1 : (((Rect.unit (s := S128x14080) ![0, 256 * t] S128x256.size inb).emb (ix2 r q)) 1).val
      = 256 * t + q.val := by
    show 256 * t + 1 * q.val = _
    omega
  congr 1
  · show x _ = x _
    congr 1
    funext a
    apply Fin.ext
    match a with
    | ⟨0, _⟩ => rfl
    | ⟨1, _⟩ =>
      show 256 * t + 1 * p.val = 256 * (_ / 256) + p.val
      rw [e1]
      omega
  · congr 1
    funext a
    apply Fin.ext
    match a with
    | ⟨0, _⟩ => rfl
    | ⟨1, _⟩ =>
      show q.val = _ % 256
      rw [e1]
      omega

/-- The rotation in plain terms: column `k` is the sum over the 128 columns of its block of `x` times the sign of the
    bits the two columns' places share, times the scale. -/
def rot (x : Vec Ideal S128x14080 .bf16) (r : Fin 128) (k : Fin 14080) : EReal :=
  ∑ p : Fin 128, (x (ix2 r ⟨128 * (k.val / 128) + p.val, by have := k.isLt; have := p.isLt; omega⟩) : EReal)
    * (sgnE 7 (p.val &&& (k.val % 128)) * kappa)

/-- The low seven bits of the bits two words share are the bits their low seven bits share. -/
theorem and_mod_128 (a b : ℕ) : (a &&& b) % 128 = (a % 128) &&& (b % 128) := Nat.and_mod_two_pow (n := 7)

/-- The kernel's rotation is the plain one. -/
theorem rotTile_eq (x : Vec Ideal S128x14080 .bf16) (r : Fin 128) (k : Fin 14080) :
    rotTile x (ix2 r k) = rot x r k := by
  have hk := k.isLt
  unfold rotTile rot
  rw [sum_half _ (k.val % 256 / 128) (by omega)]
  · rw [sum_mul_of_nonneg _ _ kappa_nonneg kappa_ne_top]
    refine Finset.sum_congr rfl fun p _ => ?_
    have hp := p.isLt
    rw [had_apply, if_pos (show (128 * (k.val % 256 / 128) + p.val) / 128 = k.val % 256 / 128 from by omega), mul_assoc]
    congr 1
    · congr 1
      funext a
      apply Fin.ext
      match a with
      | ⟨0, _⟩ => rfl
      | ⟨1, _⟩ =>
        show 256 * (k.val / 256) + (128 * (k.val % 256 / 128) + p.val) = 128 * (k.val / 128) + p.val
        omega
    · congr 2
      show ((128 * (k.val % 256 / 128) + p.val) &&& (k.val % 256)) % 128 = _
      rw [and_mod_128, show (128 * (k.val % 256 / 128) + p.val) % 128 = p.val from by omega,
        show k.val % 256 % 128 = k.val % 128 from by omega]
  · intro p hp
    rw [had_apply, if_neg (show ¬ p.val / 128 = k.val % 256 / 128 from hp), mul_zero]

end Cert.Hand

end
-- ==== Proof.Hand.Chunk.lean ====
/-
  The weights the kernel unpacks and scales: one chunk of 1280 rows read at an index, and the product of the eleven
  chunks as one sum over the 14080 rows.
-/
module

public import proofs.«01_k».proof.Proof.Gen.KernelIdeal.Skeleton
public import proofs.«01_k».proof.Proof.Hand.Sums
public import Idealize.ShloMosaic.Lib.Pipeline.Value
public import Idealize.ShloMosaic.Lib.MatmulPlain

@[expose] public section

set_option maxRecDepth 16384

noncomputable section

namespace Cert.Hand

open Cert.KernelIdeal Cert.KernelIdeal.Gen Idealize.ShloMosaic Idealize.ShloMosaic.ValueIdx
open scoped BigOperators

/-! ## One signed nibble -/

/-- The signed value of nibble `b` of a byte (`0` the low one), as an extended real. -/
def nib (w : BitVec 8) (b : ℕ) : EReal :=
  (((if b = 0 then (w.setWidth 4).toInt else ((w >>> 4).setWidth 4).toInt : ℤ) : ℝ) : EReal)

/-- The kernel's low nibble: the byte widened, cut to four bits. -/
theorem nib_low (w : BitVec 8) : ((((w.setWidth 32).setWidth 4).toInt : ℝ) : EReal) = nib w 0 := by
  have h : ∀ v : BitVec 8, ((v.setWidth 32).setWidth 4) = v.setWidth 4 := by decide +kernel
  rw [h]
  rfl

/-- The kernel's high nibble: the byte widened, shifted right by four, cut to four bits. -/
theorem nib_high (w : BitVec 8) :
    ((((IntOp.shrsi .vector (w.setWidth 32) 4#32).setWidth 4).toInt : ℝ) : EReal) = nib w 1 := by
  have h : ∀ v : BitVec 8, (IntOp.shrsi .vector (v.setWidth 32) 4#32).setWidth 4 = (v >>> 4).setWidth 4 := by
    decide +kernel
  rw [h]
  rfl

/-! ## One chunk -/

/-- The 1280 rows of signed codes of 640 rows of bytes: row `2 r` the low nibbles of byte row `r`, row `2 r + 1` the high. -/
def codes (w : Vec Ideal S640x256 .i8) : FVec Ideal S1280x256 .bf16 :=
  sitofp .bf16 (trunci 4 (shapeCast S1280x256
    (concatenate S640x2x256 1
      [⟨S640x1x256, shapeCast S640x1x256 (extui 32 w natLt_8_32) shapeCasts_S640x256_S640x1x256⟩,
       ⟨S640x1x256, shapeCast S640x1x256 (shrsi (extui 32 w natLt_8_32) (broadcast S640x256 4#32)) shapeCasts_S640x256_S640x1x256⟩]
      concatenates_S640x1x256_S640x1x256_S640x2x256_d1)
    shapeCasts_S640x2x256_S1280x256) natLt_4_32)

/-- A code at an index. -/
theorem codes_apply (w : Vec Ideal S640x256 .i8) (k : Fin 1280) (j : Fin 256) :
    codes w (ix2 k j) = nib (w (ix2 ⟨k.val / 2, by have := k.isLt; omega⟩ j)) (k.val % 2) := by
  have hk := k.isLt
  have hj := j.isLt
  have hcast : shapeCast S1280x256
      (concatenate S640x2x256 1
        [⟨S640x1x256, shapeCast S640x1x256 (extui 32 w natLt_8_32) shapeCasts_S640x256_S640x1x256⟩,
         ⟨S640x1x256, shapeCast S640x1x256 (shrsi (extui 32 w natLt_8_32) (broadcast S640x256 4#32)) shapeCasts_S640x256_S640x1x256⟩]
        concatenates_S640x1x256_S640x1x256_S640x2x256_d1)
      shapeCasts_S640x2x256_S1280x256 (ix2 k j)
      = if k.val % 2 = 0 then (w (ix2 ⟨k.val / 2, by omega⟩ j)).setWidth 32
        else IntOp.shrsi .vector ((w (ix2 ⟨k.val / 2, by omega⟩ j)).setWidth 32) 4#32 := by
    rw [shapeCast_apply _ _ _ (ix3 (⟨k.val / 2, by omega⟩ : Fin 640) (⟨k.val % 2, by omega⟩ : Fin 2) j) (by
      rw [Shape.rowMajor_val_three, Shape.rowMajor_val_two]
      show (k.val / 2 * 2 + k.val % 2) * 256 + j.val = k.val * 256 + j.val
      omega)]
    split
    · next h =>
      rw [concatenate_pair_apply_left (t := S640x2x256) (s₁ := S640x1x256) (s₂ := S640x1x256) 1 _ _ _ _ rfl (ix3 (⟨k.val / 2, by omega⟩ : Fin 640) (0 : Fin 1) j) (by
        intro a
        match a with
        | ⟨0, _⟩ => rfl
        | ⟨1, _⟩ => exact h.symm
        | ⟨2, _⟩ => rfl)]
      rw [shapeCast_apply _ _ _ (ix2 (⟨k.val / 2, by omega⟩ : Fin 640) j) (by
        rw [Shape.rowMajor_val_three, Shape.rowMajor_val_two]
        show k.val / 2 * 256 + j.val = (k.val / 2 * 1 + 0) * 256 + j.val
        omega)]
      rfl
    · next h =>
      rw [concatenate_pair_apply_right (t := S640x2x256) (s₁ := S640x1x256) (s₂ := S640x1x256) 1 _ _ _ _ rfl rfl (ix3 (⟨k.val / 2, by omega⟩ : Fin 640) (0 : Fin 1) j)]
      · rw [shapeCast_apply _ _ _ (ix2 (⟨k.val / 2, by omega⟩ : Fin 640) j) (by
          rw [Shape.rowMajor_val_three, Shape.rowMajor_val_two]
          show k.val / 2 * 256 + j.val = (k.val / 2 * 1 + 0) * 256 + j.val
          omega)]
        rfl
      · intro a ha
        match a with
        | ⟨0, _⟩ => rfl
        | ⟨1, _⟩ => exact absurd rfl ha
        | ⟨2, _⟩ => rfl
      · show 0 + 1 = k.val % 2
        omega
  show (((BitVec.setWidth 4 (shapeCast S1280x256 _ shapeCasts_S640x2x256_S1280x256 (ix2 k j))).toInt : ℝ) : EReal) = _
  rw [hcast]
  split
  · next h => rw [nib_low, h]
  · next h => rw [nib_high, show k.val % 2 = 1 from by omega]

/-- The 1280 rows of weights of a chunk: each group of 128 rows of codes times its row of scales. -/
def chunkW (q : FVec Ideal S1280x256 .bf16) (s : Vec Ideal S10x256 .bf16) : FVec Ideal S1280x256 .bf16 :=
  shapeCast S1280x256 (mulf (shapeCast S10x128x256 q shapeCasts_S1280x256_S10x128x256)
    (broadcastTo S10x128x256 (shapeCast S10x1x256 s shapeCasts_S10x256_S10x1x256 : FVec Ideal S10x1x256 .bf16)
      broadcasts_S10x1x256_S10x128x256)) shapeCasts_S10x128x256_S1280x256

/-- A weight of a chunk at an index. -/
theorem chunkW_apply (q : FVec Ideal S1280x256 .bf16) (s : Vec Ideal S10x256 .bf16) (k : Fin 1280) (j : Fin 256) :
    chunkW q s (ix2 k j) = q (ix2 k j) * (s (ix2 ⟨k.val / 128, by have := k.isLt; omega⟩ j) : EReal) := by
  have hk := k.isLt
  have hj := j.isLt
  unfold chunkW
  rw [shapeCast_apply _ _ _ (ix3 (⟨k.val / 128, by omega⟩ : Fin 10) (⟨k.val % 128, by omega⟩ : Fin 128) j) (by
    rw [Shape.rowMajor_val_three, Shape.rowMajor_val_two]
    show (k.val / 128 * 128 + k.val % 128) * 256 + j.val = k.val * 256 + j.val
    omega), mulf_apply]
  congr 1
  · rw [shapeCast_apply _ _ _ (ix2 k j) (by
      rw [Shape.rowMajor_val_three, Shape.rowMajor_val_two]
      show k.val * 256 + j.val = (k.val / 128 * 128 + k.val % 128) * 256 + j.val
      omega)]
  · rw [broadcastTo_apply _ _ _ (ix3 (⟨k.val / 128, by omega⟩ : Fin 10) (0 : Fin 1) j) (by
      intro a
      match a with
      | ⟨0, _⟩ => rfl
      | ⟨1, _⟩ => rfl
      | ⟨2, _⟩ => rfl)]
    rw [shapeCast_apply _ _ _ (ix2 (⟨k.val / 128, by omega⟩ : Fin 10) j) (by
      rw [Shape.rowMajor_val_three, Shape.rowMajor_val_two]
      show k.val / 128 * 256 + j.val = (k.val / 128 * 1 + 0) * 256 + j.val
      omega)]

/-- One chunk's step of the accumulation. -/
def step (acc : FVec Ideal S128x256 .f32) (w : FVec Ideal S1280x256 .bf16) (x : Vec Ideal S128x1280 .bf16) :
    FVec Ideal S128x256 .f32 :=
  addf acc (matmul (φ₁ := .bf16) dot_S128x1280_S1280x256_S128x256_1_0_0_1_n_n none x w (constant S128x256 .f32 0x00000000#32))

/-- One chunk's step at an index. -/
theorem step_apply (acc : FVec Ideal S128x256 .f32) (w : FVec Ideal S1280x256 .bf16) (x : Vec Ideal S128x1280 .bf16)
    (r : Fin 128) (j : Fin 256) :
    step acc w x (ix2 r j) = acc (ix2 r j) + ∑ k : Fin 1280, (x (ix2 r k) : EReal) * w (ix2 k j) := by
  show acc (ix2 r j) + FloatOps.matmul (F := Ideal) (DotDims.plain 128 1280 256) none x w (constant S128x256 .f32 0x00000000#32) (ix2 r j) = _
  rw [Ideal.matmul_plain_apply, constant_apply, Ideal.ofBits_zero_f32, zero_add]

/-! ## The eleven chunks -/

/-- The weight at row `k` and column `j` of a block of bytes and scales. -/
def wt (x1 : Vec Ideal S7040x256 .i8) (x2 : Vec Ideal S110x256 .bf16) (k : Fin 14080) (j : Fin 256) : EReal :=
  nib (x1 (ix2 ⟨k.val / 2, by have := k.isLt; omega⟩ j)) (k.val % 2)
    * (x2 (ix2 ⟨k.val / 128, by have := k.isLt; omega⟩ j) : EReal)

/-- Rows `640 c …` of the bytes lie inside the block. -/
theorem inb1 {c : ℕ} (h : c < 11) : ∀ a, (![640 * c, 0] : Fin 2 → ℕ) a + S640x256.size a ≤ S7040x256.size a
  | ⟨0, _⟩ => by show 640 * c + 640 ≤ 7040; omega
  | ⟨1, _⟩ => Nat.le_refl 256

/-- Rows `10 c …` of the scales lie inside the block. -/
theorem inb2 {c : ℕ} (h : c < 11) : ∀ a, (![10 * c, 0] : Fin 2 → ℕ) a + S10x256.size a ≤ S110x256.size a
  | ⟨0, _⟩ => by show 10 * c + 10 ≤ 110; omega
  | ⟨1, _⟩ => Nat.le_refl 256

/-- Columns `1280 c …` of the rotated activations lie inside the block. -/
theorem inb3 {c : ℕ} (h : c < 11) : ∀ a, (![0, 1280 * c] : Fin 2 → ℕ) a + S128x1280.size a ≤ S128x14080.size a
  | ⟨0, _⟩ => Nat.le_refl 128
  | ⟨1, _⟩ => by show 1280 * c + 1280 ≤ 14080; omega

/-- The accumulator after `c` chunks. -/
def kacc (x1 : Vec Ideal S7040x256 .i8) (x2 : Vec Ideal S110x256 .bf16) (xs : Vec Ideal S128x14080 .bf16) :
    (c : ℕ) → c ≤ 11 → FVec Ideal S128x256 .f32
  | 0, _ => broadcast S128x256 (Scalar.ofBits .f32 0x00000000#32)
  | c + 1, h => step (kacc x1 x2 xs c (Nat.le_of_succ_le h))
      (chunkW (codes (View.ld x1 (Rect.unit (s := S7040x256) ![640 * c, 0] S640x256.size (inb1 h))))
        (View.ld x2 (Rect.unit (s := S110x256) ![10 * c, 0] S10x256.size (inb2 h))))
      (View.ld xs (Rect.unit (s := S128x14080) ![0, 1280 * c] S128x1280.size (inb3 h)))

/-- The accumulator after `c` chunks at an index: the sum over the chunks' rows. -/
theorem kacc_apply (x1 : Vec Ideal S7040x256 .i8) (x2 : Vec Ideal S110x256 .bf16) (xs : Vec Ideal S128x14080 .bf16)
    (r : Fin 128) (j : Fin 256) : ∀ (c : ℕ) (h : c ≤ 11), kacc x1 x2 xs c h (ix2 r j)
      = ∑ b : Fin c, ∑ k : Fin 1280, (xs (ix2 r ⟨1280 * b.val + k.val, by have := b.isLt; have := k.isLt; omega⟩) : EReal)
          * wt x1 x2 ⟨1280 * b.val + k.val, by have := b.isLt; have := k.isLt; omega⟩ j
  | 0, _ => by
    rw [Fin.sum_univ_zero]
    exact Ideal.ofBits_zero_f32
  | c + 1, h => by
    rw [Fin.sum_univ_castSucc, kacc, step_apply, kacc_apply x1 x2 xs r j c (Nat.le_of_succ_le h)]
    congr 1
    refine Finset.sum_congr rfl fun k _ => ?_
    have hk := k.isLt
    rw [chunkW_apply, codes_apply]
    congr 1
    · show xs _ = xs _
      congr 1
      funext a
      apply Fin.ext
      match a with
      | ⟨0, _⟩ => show 0 + 1 * r.val = r.val; omega
      | ⟨1, _⟩ => show 1280 * c + 1 * k.val = 1280 * c + k.val; omega
    · unfold wt
      congr 1
      · have e : (1280 * c + k.val) % 2 = k.val % 2 := by omega
        show nib _ _ = nib _ ((1280 * c + k.val) % 2)
        rw [e]
        congr 1
        show x1 _ = x1 _
        congr 1
        funext a
        apply Fin.ext
        match a with
        | ⟨0, _⟩ => show 640 * c + 1 * (k.val / 2) = (1280 * c + k.val) / 2; omega
        | ⟨1, _⟩ => show 0 + 1 * j.val = j.val; omega
      · show x2 _ = x2 _
        congr 1
        funext a
        apply Fin.ext
        match a with
        | ⟨0, _⟩ => show 10 * c + 1 * (k.val / 128) = (1280 * c + k.val) / 128; omega
        | ⟨1, _⟩ => show 0 + 1 * j.val = j.val; omega

/-- What the kernel stores into its output block: the accumulator after the eleven chunks. -/
def kout (x1 : Vec Ideal S7040x256 .i8) (x2 : Vec Ideal S110x256 .bf16) (xs : Vec Ideal S128x14080 .bf16) :
    Vec Ideal S128x256 .bf16 :=
  truncf .bf16 (kacc x1 x2 xs 11 (Nat.le_refl 11)) bitsLt_bf16_f32

/-- The output block at an index: the full product of the rotated row with the column of weights. -/
theorem kout_apply (x1 : Vec Ideal S7040x256 .i8) (x2 : Vec Ideal S110x256 .bf16) (xs : Vec Ideal S128x14080 .bf16)
    (r : Fin 128) (j : Fin 256) :
    kout x1 x2 xs (ix2 r j) = ∑ k : Fin 14080, (xs (ix2 r k) : EReal) * wt x1 x2 k j := by
  rw [sum_split (show 14080 = 11 * 1280 from rfl)]
  exact kacc_apply x1 x2 xs r j 11 (Nat.le_refl 11)

end Cert.Hand

end
-- ==== Proof.Hand.Points.lean ====
/-
  What one grid point leaves behind: the rotated activations in the scratch, written by the first point and read by all,
  and the output block.
-/
module

public import proofs.«01_k».proof.Proof.Gen.KernelIdeal.Value
public import proofs.«01_k».proof.Proof.Hand.Rotation
public import proofs.«01_k».proof.Proof.Hand.Chunk
public import Idealize.ShloMosaic.Lib.Pipeline.Value

@[expose] public section

set_option maxRecDepth 16384

noncomputable section

namespace Cert.Hand

open Cert.KernelIdeal Cert.KernelIdeal.Gen Idealize.ShloMosaic Idealize.ShloMosaic.TcCoe Idealize.SL.Sem
  Idealize.ShloMosaic.ValueIdx
open scoped BigOperators

variable (c : Dev nD) (i : grid0.Coords)
  (arg1 : Memref sig .tc .vmem S128x14080 .bf16) (harg1 : arg1.IsWhole)
  (arg2 : Memref sig .tc .vmem S7040x256 .i8) (harg2 : arg2.IsWhole)
  (arg3 : Memref sig .tc .vmem S110x256 .bf16) (harg3 : arg3.IsWhole)
  (arg4 : Memref sig .tc .vmem S128x256 .bf16) (harg4 : arg4.IsWhole)
  (arg5 : Memref sig .tc .vmem S128x14080 .bf16) (harg5 : arg5.IsWhole)
  (x0 : Vec Ideal S128x14080 .bf16) (x1 : Vec Ideal S7040x256 .i8) (x2 : Vec Ideal S110x256 .bf16)
  (xs0 : Vec Ideal S128x14080 .bf16)

/-- The first point's pieces for the scratch are the tiles of the rotated activations. -/
theorem scratch_pieces (hc0 : cond0_0 i) :
    ∀ p ∈ (kernelRun0_A (F := Ideal) c i arg1 harg1 arg2 harg2 arg3 harg3 arg4 harg4 arg5 harg5 hc0 x0 x1 x2).2.1,
      ∀ y, p.2 y = rotTile x0 (p.1.emb y) := by
  unfold kernelRun0_A
  dsimp only
  sl_unfold_words
  simp only [View.readAt_eq_ld, harg1.read_unread]
  repeat' (refine List.forall_mem_cons.2 ⟨fun y => tile_piece x0 _ (by decide) _ y, ?_⟩)
  exact List.forall_mem_nil _

/-- The scratch after the first point: the rotated activations. -/
theorem scratch_A (hc0 : cond0_0 i) :
    sout0_A_0 (F := Ideal) c i arg1 harg1 arg2 harg2 arg3 harg3 arg4 harg4 arg5 harg5 hc0 x0 x1 x2 = rotTile x0 := by
  unfold sout0_A_0
  rw [View.read_writes_eq_canon _ _ _ (scover0_A_0 c i arg1 harg1 arg2 harg2 arg3 harg3 arg4 harg4 arg5 harg5 hc0 x0 x1 x2)]
  funext y
  exact View.canon_apply_of_pieces (rotTile x0) _
    (scratch_pieces c i arg1 harg1 arg2 harg2 arg3 harg3 arg4 harg4 arg5 harg5 x0 x1 x2 hc0) y
    (scover0_A_0 c i arg1 harg1 arg2 harg2 arg3 harg3 arg4 harg4 arg5 harg5 hc0 x0 x1 x2 y)

/-- The output block of a later point, from the scratch it finds. -/
theorem out_B (hc0 : ¬cond0_0 i) :
    out0_B_3 (F := Ideal) c i arg1 harg1 arg2 harg2 arg3 harg3 arg4 harg4 arg5 harg5 hc0 x0 x1 x2 xs0
      = kout x1 x2 xs0 := by
  unfold out0_B_3
  rw [View.read_writes_eq_canon _ _ _ (cover0_B_3 c i arg1 harg1 arg2 harg2 arg3 harg3 arg4 harg4 arg5 harg5 hc0 x0 x1 x2 xs0)]
  unfold kernelRun0_B
  dsimp only
  sl_unfold_words
  simp only [View.readAt_eq_ld, harg2.read_unread, harg3.read_unread, harg5.read_unread]
  refine (View.canon_unit_zero (by funext a; fin_cases a <;> rfl) _ _).trans ?_
  rfl

/-- The output block of the first point. -/
theorem out_A (hc0 : cond0_0 i) :
    out0_A_3 (F := Ideal) c i arg1 harg1 arg2 harg2 arg3 harg3 arg4 harg4 arg5 harg5 hc0 x0 x1 x2
      = kout x1 x2 (rotTile x0) := by
  have hcan : View.canon (kernelRun0_A (F := Ideal) c i arg1 harg1 arg2 harg2 arg3 harg3 arg4 harg4 arg5 harg5 hc0 x0 x1 x2).2.1
      = rotTile x0 := by
    funext y
    exact View.canon_apply_of_pieces (rotTile x0) _
      (scratch_pieces c i arg1 harg1 arg2 harg2 arg3 harg3 arg4 harg4 arg5 harg5 x0 x1 x2 hc0) y
      (scover0_A_0 c i arg1 harg1 arg2 harg2 arg3 harg3 arg4 harg4 arg5 harg5 hc0 x0 x1 x2 y)
  have hread : ∀ B : LoadRect S128x14080,
      arg5.view.readCov (kernelRun0_A.sl.HS0_55 c arg1 harg1 x0) B = fun j => rotTile x0 (B.idx j) := by
    intro B
    rw [View.readCov_eq_canon']
    funext j
    exact congrFun hcan (B.idx j)
  unfold out0_A_3
  rw [View.read_writes_eq_canon _ _ _ (cover0_A_3 c i arg1 harg1 arg2 harg2 arg3 harg3 arg4 harg4 arg5 harg5 hc0 x0 x1 x2)]
  unfold kernelRun0_A
  dsimp only
  refine (View.canon_unit_zero (by funext a; fin_cases a <;> rfl) _ _).trans ?_
  delta kernelRun0_A.sl.r_21 kernelRun0_A.sl.r_22 kernelRun0_A.sl.r_19 kernelRun0_A.sl.r_20 kernelRun0_A.sl.r_16
    kernelRun0_A.sl.r_17 kernelRun0_A.sl.r_18 kernelRun0_A.sl.r_14 kernelRun0_A.sl.r_15 kernelRun0_A.sl.r_12
    kernelRun0_A.sl.r_13 kernelRun0_A.sl.v20 kernelRun0_A.sl.v39 kernelRun0_A.sl.v58 kernelRun0_A.sl.v77
    kernelRun0_A.sl.v96 kernelRun0_A.sl.v115 kernelRun0_A.sl.v134 kernelRun0_A.sl.v153 kernelRun0_A.sl.v172
    kernelRun0_A.sl.v191 kernelRun0_A.sl.v210
  simp only [View.readAt_eq_ld, harg2.read_unread, harg3.read_unread, hread]
  rfl

end Cert.Hand

end
-- ==== Proof.Hand.KernelValue.lean ====
/-
  The array the kernel ends with, read at an index.
-/
module

public import proofs.«01_k».proof.Proof.Hand.Points
public import Idealize.ShloMosaic.Lib.StableHlo.Run

@[expose] public section

set_option maxRecDepth 16384

noncomputable section

namespace Cert.Hand

open Cert.KernelIdeal Cert.KernelIdeal.Gen Cert.KernelIdeal.Value Idealize.ShloMosaic Idealize.ShloMosaic.TcCoe
  Idealize.SL.Sem Idealize.ShloMosaic.ValueIdx
open scoped BigOperators

variable (m : (ℓ : Loc nD τ sig) → Buf (Elt Ideal) ℓ) (c : Dev nD)

/-! ## The arrays the windows read -/

/-- The activations with their axis of extent one dropped. -/
def acts (x : Vec Ideal S128x1x14080 .bf16) : Vec Ideal S128x14080 .bf16 := fun i => x (ix3 (i 0) (0 : Fin 1) (i 1))

/-- Window 0's array holds the activations, reshaped. -/
theorem V_acts : V m c main_v0 = acts (m ((c : Thread nD τ).loc main_arg0)) := by
  have e : V m c main_v0 = shapeCast S128x14080 (m ((c : Thread nD τ).loc main_arg0)) shapeCasts_S128x1x14080_S128x14080 := by
    unfold V hostOps0
    after_results
    rfl
  rw [e]
  funext i
  unfold acts
  obtain ⟨r, k, rfl⟩ : ∃ (r : Fin 128) (k : Fin 14080), i = ix2 r k := ⟨i 0, i 1, eq_ix2 i⟩
  refine shapeCast_apply _ _ (ix2 r k) (ix3 r (0 : Fin 1) k) ?_
  rw [Shape.rowMajor_val_two, Shape.rowMajor_val_three]
  show (r.val * 1 + 0) * 14080 + k.val = r.val * 14080 + k.val
  omega

/-- No operation before the launch writes the bytes. -/
theorem V_bytes : V m c main_arg1 = m ((c : Thread nD τ).loc main_arg1) := by
  unfold V hostOps0
  after_results

/-- No operation before the launch writes the scales. -/
theorem V_scales : V m c main_arg2 = m ((c : Thread nD τ).loc main_arg2) := by
  unfold V hostOps0
  after_results

/-- The printed index maps over the grid. -/
theorem idx_in : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Window 0 holds the whole of the activations. -/
theorem iblk_acts (t : Fin cfg0.N) :
    (iblk m c 0 t : Vec Ideal S128x14080 .bf16) = acts (m ((c : Thread nD τ).loc main_arg0)) := by
  obtain ⟨e0, e1, -⟩ := idx_in t
  rw [← V_acts m c]
  funext j
  unfold iblk
  rw [View.read_apply]
  show V m c main_v0 _ = V m c main_v0 _
  congr 1
  funext a
  apply Fin.ext
  match a with
  | ⟨0, _⟩ => show win0_0.index t 0 * 128 + 1 * (j 0).val = (j 0).val; rw [e0]; omega
  | ⟨1, _⟩ => show win0_0.index t 1 * 14080 + 1 * (j 1).val = (j 1).val; rw [e1]; omega

/-- A column of a block is a column of the array. -/
theorem col_lt (t : Fin cfg0.N) (j : Fin 256) : 256 * t.val + j.val < 5888 := by
  have h1 := lt_of_lt_of_eq t.isLt (show cfg0.N = 23 from N_0)
  have h2 := j.isLt
  omega

/-- Window 1 holds 256 columns of the bytes. -/
theorem iblk_bytes (t : Fin cfg0.N) (k : Fin 7040) (j : Fin 256) :
    (iblk m c 1 t : Vec Ideal S7040x256 .i8) (ix2 k j)
      = (m ((c : Thread nD τ).loc main_arg1) : Vec Ideal S7040x5888 .i8) (ix2 k ⟨256 * t.val + j.val, col_lt t j⟩) := by
  obtain ⟨-, -, e0, e1, -⟩ := idx_in t
  rw [← V_bytes m c]
  unfold iblk
  rw [View.read_apply]
  show V m c main_arg1 _ = V m c main_arg1 _
  congr 1
  funext a
  apply Fin.ext
  match a with
  | ⟨0, _⟩ => show win0_1.index t 0 * 7040 + 1 * k.val = k.val; rw [e0]; omega
  | ⟨1, _⟩ => show win0_1.index t 1 * 256 + 1 * j.val = 256 * t.val + j.val; rw [e1]; omega

/-- Window 2 holds 256 columns of the scales. -/
theorem iblk_scales (t : Fin cfg0.N) (k : Fin 110) (j : Fin 256) :
    (iblk m c 2 t : Vec Ideal S110x256 .bf16) (ix2 k j)
      = (m ((c : Thread nD τ).loc main_arg2) : Vec Ideal S110x5888 .bf16) (ix2 k ⟨256 * t.val + j.val, col_lt t j⟩) := by
  obtain ⟨-, -, -, -, e0, e1⟩ := idx_in t
  rw [← V_scales m c]
  unfold iblk
  rw [View.read_apply]
  show V m c main_arg2 _ = V m c main_arg2 _
  congr 1
  funext a
  apply Fin.ext
  match a with
  | ⟨0, _⟩ => show win0_2.index t 0 * 110 + 1 * k.val = k.val; rw [e0]; omega
  | ⟨1, _⟩ => show win0_2.index t 1 * 256 + 1 * j.val = 256 * t.val + j.val; rw [e1]; omega

/-! ## The points -/

/-- After every point the output block is the point's product and the scratch is the rotated activations. -/
theorem outs_eq : ∀ (n : ℕ) (hn : n < cfg0.N), outsAt0 m c n hn
    = (kout (iblk m c 1 ⟨n, hn⟩) (iblk m c 2 ⟨n, hn⟩) (rotTile (acts (m ((c : Thread nD τ).loc main_arg0)))),
        rotTile (acts (m ((c : Thread nD τ).loc main_arg0))))
  | 0, hn => by
    refine (outsAt0_A m c ⟨0, hn⟩ rfl).trans ?_
    rw [out_A, scratch_A, iblk_acts]
  | n + 1, hn => by
    have hN := lt_of_lt_of_eq hn (show cfg0.N = 23 from N_0)
    rw [outsAt0_succ, outs_eq n (Nat.lt_of_succ_lt hn)]
    refine (stAt0_B m c ⟨n + 1, hn⟩ _ (by show ¬ (n + 1) % 23 = 0; omega)).trans ?_
    rw [out_B]
    rfl

/-- One entry of the result: the rotated row times the column of weights. -/
def entry (x : Vec Ideal S128x1x14080 .bf16) (w : Vec Ideal S7040x5888 .i8) (s : Vec Ideal S110x5888 .bf16)
    (r : Fin 128) (j : Fin 5888) : EReal :=
  ∑ k : Fin 14080, rot (acts x) r k
    * (nib (w (ix2 ⟨k.val / 2, by have := k.isLt; omega⟩ j)) (k.val % 2)
        * (s (ix2 ⟨k.val / 128, by have := k.isLt; omega⟩ j) : EReal))

/-- The kernel's result array at an index. -/
theorem G3_apply (r : Fin 128) (j : Fin 5888) :
    (G3 m c : Vec Ideal S128x5888 .bf16) (ix2 r j)
      = entry (m ((c : Thread nD τ).loc main_arg0)) (m ((c : Thread nD τ).loc main_arg1))
          (m ((c : Thread nD τ).loc main_arg2)) r j := by
  have hr := r.isLt
  have hj := j.isLt
  have hp : pt3Of (ix2 r j) = j.val / 256 := by
    show 23 * (r.val / 128 - 0) + 1 * (j.val / 256 - 0) = j.val / 256
    omega
  have hN : j.val / 256 < cfg0.N := lt_of_lt_of_eq (by omega) (show 23 = cfg0.N from N_0.symm)
  have hl : loc3Of (ix2 r j) = ix2 r (⟨j.val % 256, Nat.mod_lt _ (by decide)⟩ : Fin 256) := by
    funext a
    apply Fin.ext
    match a with
    | ⟨0, _⟩ => show r.val % 128 = r.val; omega
    | ⟨1, _⟩ => rfl
  unfold G3
  rw [dif_pos (by rw [hp]; exact hN), hl, fold0_congr m c _ _ (j.val / 256) (by omega) hp,
    ← outsAt0_sweep m c (j.val / 256) hN, outs_eq]
  show kout _ _ _ (ix2 r _) = _
  rw [kout_apply]
  unfold entry
  have ej : (⟨256 * (j.val / 256) + j.val % 256, col_lt ⟨j.val / 256, hN⟩ ⟨j.val % 256, Nat.mod_lt _ (by decide)⟩⟩ : Fin 5888) = j :=
    Fin.ext (Nat.div_add_mod j.val 256)
  refine Finset.sum_congr rfl fun k _ => ?_
  rw [rotTile_eq]
  unfold wt
  rw [iblk_bytes, iblk_scales]
  show _ * (nib ((m ((c : Thread nD τ).loc main_arg1) : Vec Ideal S7040x5888 .i8) (ix2 _ (⟨256 * (j.val / 256) + j.val % 256, _⟩ : Fin 5888))) _
    * ((m ((c : Thread nD τ).loc main_arg2) : Vec Ideal S110x5888 .bf16) (ix2 _ (⟨256 * (j.val / 256) + j.val % 256, _⟩ : Fin 5888)) : EReal)) = _
  rw [ej]

end Cert.Hand

end
-- ==== Proof.Hand.Reference.lean ====
/-
  The array the reference ends with, read at an index: the sign matrix of size 128 from its seven Kronecker products, the
  rotated activations, the scaled nibbles, and the two products.
-/
module

public import proofs.«01_k».proof.Proof.Gen.ReferenceIdeal.Run
public import proofs.«01_k».proof.Proof.Hand.KernelValue
public import Idealize.ShloMosaic.Lib.IdealHost

@[expose] public section

set_option maxRecDepth 16384

noncomputable section

namespace Cert.Hand

open Cert.ReferenceIdeal Cert.ReferenceIdeal.Gen Cert.ReferenceIdeal.Value Idealize.ShloMosaic Idealize.ShloMosaic.TcCoe
  Idealize.SL.Sem Idealize.ShloMosaic.ValueIdx
open scoped BigOperators

/-! ## The sign matrix -/

/-- The 2 × 2 sign matrix the reference starts from. -/
def had2 : FVec Ideal S2x2 .f32 := fun i => FloatOps.ofBits .f32 (lit0 (S2x2.rowMajor i))

/-- The word of minus one. -/
theorem ofBits_neg_one_f32 : Ideal.ofBits .f32 0xBF800000#32 = -1 := by
  have h : Ideal.ofBits .f32 0xBF800000#32 = ((-1 : ℝ) : EReal) := by
    simp [Ideal.ofBits, Ideal.ieee, -EReal.coe_mul, -EReal.coe_neg]; norm_num
  rw [h]
  rfl

/-- The 2 × 2 sign matrix at an index: minus one where both indices are odd. -/
theorem had2_apply (i j : Fin 2) : had2 (ix2 i j) = if i.val = 1 ∧ j.val = 1 then -1 else 1 := by
  have h : S2x2.rowMajor (ix2 i j) = (⟨i.val * 2 + j.val, by have := i.isLt; have := j.isLt; show _ < 4; omega⟩ : Fin 4) :=
    Fin.ext (by rw [Shape.rowMajor_val_two]; rfl)
  show Ideal.ofBits .f32 (lit0 (S2x2.rowMajor (ix2 i j))) = _
  rw [h]
  match i, j with
  | ⟨0, _⟩, ⟨0, _⟩ => exact Ideal.ofBits_one_f32
  | ⟨0, _⟩, ⟨1, _⟩ => exact Ideal.ofBits_one_f32
  | ⟨1, _⟩, ⟨0, _⟩ => exact Ideal.ofBits_one_f32
  | ⟨1, _⟩, ⟨1, _⟩ => exact ofBits_neg_one_f32

/-- `A` of size `n` holds the signs of `k` bits. -/
def IsHad (k n : ℕ) (A : FVec Ideal ⟨2, ![n, n]⟩ .f32) : Prop := ∀ i j : Fin n, A (ix2 i j) = sgnE k (i.val &&& j.val)

/-- The step from the entries of a product with the 2 × 2 matrix to one more bit. -/
theorem had_step {k n N : ℕ} (hN : N = n * 2) (A : FVec Ideal ⟨2, ![n, n]⟩ .f32) (hA : IsHad k n A)
    (i j : Fin N) :
    A (ix2 ⟨i.val / 2, by have := i.isLt; omega⟩ ⟨j.val / 2, by have := j.isLt; omega⟩)
        * had2 (ix2 ⟨i.val % 2, by omega⟩ ⟨j.val % 2, by omega⟩)
      = sgnE (k + 1) (i.val &&& j.val) := by
  rw [hA, had2_apply, sgnE_and_succ]

/-- One Kronecker product with the 2 × 2 matrix adds one bit. -/
theorem kron_had {k n N : ℕ} (hN : N = n * 2) (A : FVec Ideal ⟨2, ![n, n]⟩ .f32) (hA : IsHad k n A)
    (b1 : (⟨2, ![n, n]⟩ : Shape).BroadcastsInDim ⟨4, ![n, 1, n, 1]⟩ ![0, 2])
    (b2 : (⟨4, ![n, 1, n, 1]⟩ : Shape).BroadcastsInDim ⟨4, ![n, 2, n, 2]⟩ ![0, 1, 2, 3])
    (b3 : (⟨2, ![2, 2]⟩ : Shape).BroadcastsInDim ⟨4, ![1, 2, 1, 2]⟩ ![1, 3])
    (b4 : (⟨4, ![1, 2, 1, 2]⟩ : Shape).BroadcastsInDim ⟨4, ![n, 2, n, 2]⟩ ![0, 1, 2, 3])
    (h : (⟨4, ![n, 2, n, 2]⟩ : Shape).ShapeCasts ⟨2, ![N, N]⟩) :
    IsHad (k + 1) N (shapeCast ⟨2, ![N, N]⟩
      (mulf (broadcastInDim ⟨4, ![n, 2, n, 2]⟩ ![0, 1, 2, 3] b2 (broadcastInDim ⟨4, ![n, 1, n, 1]⟩ ![0, 2] b1 A) : FVec Ideal _ .f32)
        (broadcastInDim ⟨4, ![n, 2, n, 2]⟩ ![0, 1, 2, 3] b4 (broadcastInDim ⟨4, ![1, 2, 1, 2]⟩ ![1, 3] b3 had2))) h) := by
  intro i j
  have hi := i.isLt
  have hj := j.isLt
  let i' : Fin n := ⟨i.val / 2, by omega⟩
  let j' : Fin n := ⟨j.val / 2, by omega⟩
  let u : Fin 2 := ⟨i.val % 2, by omega⟩
  let v : Fin 2 := ⟨j.val % 2, by omega⟩
  rw [← had_step hN A hA]
  rw [shapeCast_apply _ _ _ (ix4 i' u j' v) (by
    rw [Shape.rowMajor_val_four, Shape.rowMajor_val_two]
    show ((i.val / 2 * 2 + i.val % 2) * n + j.val / 2) * 2 + j.val % 2 = i.val * N + j.val
    rw [show i.val / 2 * 2 + i.val % 2 = i.val from Nat.div_add_mod' _ _, Nat.add_mul, Nat.mul_assoc, Nat.add_assoc,
      Nat.div_add_mod', ← hN])]
  show broadcastInDim _ _ b2 _ (ix4 i' u j' v) * broadcastInDim _ _ b4 _ (ix4 i' u j' v) = _
  congr 1
  · rw [broadcastInDim_apply _ b2 _ _ (ix4 i' (0 : Fin 1) j' (0 : Fin 1)) (by
      intro a
      match a with
      | ⟨0, _⟩ => show i.val / 2 = if n = 1 then 0 else i.val / 2; split <;> omega
      | ⟨1, _⟩ => rfl
      | ⟨2, _⟩ => show j.val / 2 = if n = 1 then 0 else j.val / 2; split <;> omega
      | ⟨3, _⟩ => rfl)]
    exact broadcastInDim_apply _ b1 _ _ (ix2 i' j') (by
      intro a
      match a with
      | ⟨0, _⟩ => show i.val / 2 = if n = 1 then 0 else i.val / 2; split <;> omega
      | ⟨1, _⟩ => show j.val / 2 = if n = 1 then 0 else j.val / 2; split <;> omega)

/-- The first product: the matrix of size 2, from the matrix of size 1 that holds one. -/
def H1 : FVec Ideal S2x2 .f32 :=
  shapeCast _ (mulf (broadcastInDim S1x2x1x2 ![0, 1, 2, 3] bcast_S1x1x1x1_S1x2x1x2_0_1_2_3 (broadcastInDim S1x1x1x1 ![0, 2] bcast_S1x1_S1x1x1x1_0_2 (broadcastInDim S1x1 ![] bcast_S_S1x1 (constant S_ .f32 0x3F800000#32))) : FVec Ideal S1x2x1x2 .f32) (broadcastInDim S1x2x1x2 ![1, 3] bcast_S2x2_S1x2x1x2_1_3 had2)) shapeCasts_S1x2x1x2_S2x2

/-- The first product holds the signs of one bit. -/
theorem H1_had : IsHad 1 2 H1 := by
  have h0 : IsHad 0 1 (constant ⟨2, ![1, 1]⟩ .f32 0x3F800000#32) := by
    intro i j
    rw [sgnE_zero, constant_apply]
    exact Ideal.ofBits_one_f32
  intro i j
  have hi := i.isLt
  have hj := j.isLt
  let u : Fin 2 := ⟨i.val % 2, by omega⟩
  let v : Fin 2 := ⟨j.val % 2, by omega⟩
  rw [← had_step (show 2 = 1 * 2 from rfl) _ h0]
  unfold H1
  rw [shapeCast_apply _ _ _ (ix4 (0 : Fin 1) u (0 : Fin 1) v) (by
    rw [Shape.rowMajor_val_four, Shape.rowMajor_val_two]
    show ((0 * 2 + i.val % 2) * 1 + 0) * 2 + j.val % 2 = i.val * 2 + j.val
    omega)]
  show Ideal.ofBits .f32 0x3F800000#32 * broadcastInDim _ _ bcast_S2x2_S1x2x1x2_1_3 had2 _ = Ideal.ofBits .f32 0x3F800000#32 * _
  congr 1

/-- The 2 × 2 matrix spread for the next products. -/
def had4 : FVec Ideal S1x2x1x2 .f32 := broadcastInDim S1x2x1x2 ![1, 3] bcast_S2x2_S1x2x1x2_1_3 had2

/-- The products of sizes 4 to 128. -/
def H2 : FVec Ideal S4x4 .f32 := shapeCast _ (mulf (broadcastInDim S2x2x2x2 ![0, 1, 2, 3] bcast_S2x1x2x1_S2x2x2x2_0_1_2_3 (broadcastInDim S2x1x2x1 ![0, 2] bcast_S2x2_S2x1x2x1_0_2 H1) : FVec Ideal S2x2x2x2 .f32) (broadcastInDim S2x2x2x2 ![0, 1, 2, 3] bcast_S1x2x1x2_S2x2x2x2_0_1_2_3 had4)) shapeCasts_S2x2x2x2_S4x4
@[inherit_doc H2] def H3 : FVec Ideal S8x8 .f32 := shapeCast _ (mulf (broadcastInDim S4x2x4x2 ![0, 1, 2, 3] bcast_S4x1x4x1_S4x2x4x2_0_1_2_3 (broadcastInDim S4x1x4x1 ![0, 2] bcast_S4x4_S4x1x4x1_0_2 H2) : FVec Ideal S4x2x4x2 .f32) (broadcastInDim S4x2x4x2 ![0, 1, 2, 3] bcast_S1x2x1x2_S4x2x4x2_0_1_2_3 had4)) shapeCasts_S4x2x4x2_S8x8
@[inherit_doc H2] def H4 : FVec Ideal S16x16 .f32 := shapeCast _ (mulf (broadcastInDim S8x2x8x2 ![0, 1, 2, 3] bcast_S8x1x8x1_S8x2x8x2_0_1_2_3 (broadcastInDim S8x1x8x1 ![0, 2] bcast_S8x8_S8x1x8x1_0_2 H3) : FVec Ideal S8x2x8x2 .f32) (broadcastInDim S8x2x8x2 ![0, 1, 2, 3] bcast_S1x2x1x2_S8x2x8x2_0_1_2_3 had4)) shapeCasts_S8x2x8x2_S16x16
@[inherit_doc H2] def H5 : FVec Ideal S32x32 .f32 := shapeCast _ (mulf (broadcastInDim S16x2x16x2 ![0, 1, 2, 3] bcast_S16x1x16x1_S16x2x16x2_0_1_2_3 (broadcastInDim S16x1x16x1 ![0, 2] bcast_S16x16_S16x1x16x1_0_2 H4) : FVec Ideal S16x2x16x2 .f32) (broadcastInDim S16x2x16x2 ![0, 1, 2, 3] bcast_S1x2x1x2_S16x2x16x2_0_1_2_3 had4)) shapeCasts_S16x2x16x2_S32x32
@[inherit_doc H2] def H6 : FVec Ideal S64x64 .f32 := shapeCast _ (mulf (broadcastInDim S32x2x32x2 ![0, 1, 2, 3] bcast_S32x1x32x1_S32x2x32x2_0_1_2_3 (broadcastInDim S32x1x32x1 ![0, 2] bcast_S32x32_S32x1x32x1_0_2 H5) : FVec Ideal S32x2x32x2 .f32) (broadcastInDim S32x2x32x2 ![0, 1, 2, 3] bcast_S1x2x1x2_S32x2x32x2_0_1_2_3 had4)) shapeCasts_S32x2x32x2_S64x64
@[inherit_doc H2] def H7 : FVec Ideal S128x128 .f32 := shapeCast _ (mulf (broadcastInDim S64x2x64x2 ![0, 1, 2, 3] bcast_S64x1x64x1_S64x2x64x2_0_1_2_3 (broadcastInDim S64x1x64x1 ![0, 2] bcast_S64x64_S64x1x64x1_0_2 H6) : FVec Ideal S64x2x64x2 .f32) (broadcastInDim S64x2x64x2 ![0, 1, 2, 3] bcast_S1x2x1x2_S64x2x64x2_0_1_2_3 had4)) shapeCasts_S64x2x64x2_S128x128

/-- The last product holds the signs of seven bits. -/
theorem H7_had : IsHad 7 128 H7 := by
  have h2 : IsHad 2 4 H2 := kron_had (n := 2) (N := 4) rfl H1 H1_had _ _ _ _ _
  have h3 : IsHad 3 8 H3 := kron_had (n := 4) (N := 8) rfl H2 h2 _ _ _ _ _
  have h4 : IsHad 4 16 H4 := kron_had (n := 8) (N := 16) rfl H3 h3 _ _ _ _ _
  have h5 : IsHad 5 32 H5 := kron_had (n := 16) (N := 32) rfl H4 h4 _ _ _ _ _
  have h6 : IsHad 6 64 H6 := kron_had (n := 32) (N := 64) rfl H5 h5 _ _ _ _ _
  exact kron_had (n := 64) (N := 128) rfl H6 h6 _ _ _ _ _

/-! ## The rotated activations -/

/-- The reference's rotated activations. -/
def refRot (x : Vec Ideal S128x1x14080 .bf16) : FVec Ideal S128x1x14080 .bf16 :=
  truncf .bf16 (shapeCast S128x1x14080 (Host.dotGeneral (φ₁ := .f32) (φ₂ := .f32) dot_S128x1x110x128_S128x128_S128x1x110x128_3_0_012_1_n_n (some .fp32)
    (shapeCast _ (extf (φ := .bf16) .f32 x bitsLt_bf16_f32) shapeCasts_S128x1x14080_S128x1x110x128)
    (mulf H7 (broadcastInDim S128x128 ![] bcast_S_S128x128 (constant S_ .f32 0x3DB504F3#32))))
    shapeCasts_S128x1x110x128_S128x1x14080) bitsLt_bf16_f32

/-- The rotation's product at an index. -/
theorem rotDot_apply (A : FVec Ideal S128x1x110x128 .f32) (B : FVec Ideal S128x128 .f32) (r : Fin 128) (g : Fin 110)
    (q : Fin 128) :
    Host.dotGeneral dot_S128x1x110x128_S128x128_S128x1x110x128_3_0_012_1_n_n (some .fp32) A B (ix4 r (0 : Fin 1) g q)
      = ∑ p : Fin 128, A (ix4 r (0 : Fin 1) g p) * B (ix2 p q) := by
  show FloatOps.dotGeneral _ _ _ A B _ = _
  rw [Ideal.dotGeneral_apply,
    ← Equiv.sum_comp (contrEquiv1 dot_S128x1x110x128_S128x128_S128x1x110x128_3_0_012_1_n_n 128 rfl rfl).symm]
  refine Finset.sum_congr rfl fun p _ => ?_
  have hp := contrEquiv1_symm_val dot_S128x1x110x128_S128x128_S128x1x110x128_3_0_012_1_n_n 128 rfl rfl p
  congr 1
  · congr 1
    funext a
    apply Fin.ext
    match a with
    | ⟨0, _⟩ => rfl
    | ⟨1, _⟩ => rfl
    | ⟨2, _⟩ => rfl
    | ⟨3, _⟩ => exact hp
  · congr 1
    funext a
    apply Fin.ext
    match a with
    | ⟨0, _⟩ => exact hp
    | ⟨1, _⟩ => rfl

/-- The reference's rotation is the plain one. -/
theorem refRot_apply (x : Vec Ideal S128x1x14080 .bf16) (r : Fin 128) (k : Fin 14080) :
    refRot x (ix3 r (0 : Fin 1) k) = rot (acts x) r k := by
  have hk := k.isLt
  unfold refRot
  rw [truncf_apply]
  rw [shapeCast_apply _ _ _ (ix4 r (0 : Fin 1) (⟨k.val / 128, by omega⟩ : Fin 110) (⟨k.val % 128, by omega⟩ : Fin 128)) (by
    rw [Shape.rowMajor_val_four, Shape.rowMajor_val_three]
    show ((r.val * 1 + 0) * 110 + k.val / 128) * 128 + k.val % 128 = (r.val * 1 + 0) * 14080 + k.val
    omega)]
  rw [rotDot_apply]
  unfold rot
  refine Finset.sum_congr rfl fun p _ => ?_
  have hp := p.isLt
  congr 1
  · rw [shapeCast_apply _ _ _ (ix3 r (0 : Fin 1) (⟨128 * (k.val / 128) + p.val, by omega⟩ : Fin 14080)) (by
      rw [Shape.rowMajor_val_four, Shape.rowMajor_val_three]
      show (r.val * 1 + 0) * 14080 + (128 * (k.val / 128) + p.val) = ((r.val * 1 + 0) * 110 + k.val / 128) * 128 + p.val
      omega)]
    rfl
  · show H7 (ix2 p _) * kappa = _
    rw [H7_had]

/-! ## The weights -/

/-- One half of the weights: the byte shifted left by `n` bits and back by 28, times its scale. -/
def refWt (n : BitVec 32) (w : Vec Ideal S7040x5888 .i8) (s : Vec Ideal S110x5888 .bf16) : FVec Ideal S7040x5888 .bf16 :=
  shapeCast S7040x5888 (mulf (shapeCast S110x64x5888 (sitofp .bf16 (Host.shrsi (Host.shli (extui 32 w natLt_8_32) (broadcastInDim S7040x5888 ![] bcast_S_S7040x5888 (constantI S_ 32 n))) (broadcastInDim S7040x5888 ![] bcast_S_S7040x5888 (constantI S_ 32 28#32)))) shapeCasts_S7040x5888_S110x64x5888 : FVec Ideal S110x64x5888 .bf16)
    (broadcastInDim S110x64x5888 ![0, 1, 2] bcast_S110x1x5888_S110x64x5888_0_1_2 (broadcastInDim S110x1x5888 ![0, 2] bcast_S110x5888_S110x1x5888_0_2 s))) shapeCasts_S110x64x5888_S7040x5888

/-- A weight at an index. -/
theorem refWt_apply (n : BitVec 32) (w : Vec Ideal S7040x5888 .i8) (s : Vec Ideal S110x5888 .bf16) (k : Fin 7040)
    (j : Fin 5888) :
    refWt n w s (ix2 k j)
      = (((IntOp.shrsi .host (IntOp.shli .host ((w (ix2 k j) : BitVec 8).setWidth 32) n) 28#32).toInt : ℝ) : EReal)
        * (s (ix2 ⟨k.val / 64, by have := k.isLt; omega⟩ j) : EReal) := by
  have hk := k.isLt
  unfold refWt
  let g : Fin 110 := ⟨k.val / 64, by omega⟩
  let q : Fin 64 := ⟨k.val % 64, by omega⟩
  rw [shapeCast_apply _ _ _ (ix3 g q j) (by
    rw [Shape.rowMajor_val_three, Shape.rowMajor_val_two]
    show (k.val / 64 * 64 + k.val % 64) * 5888 + j.val = k.val * 5888 + j.val
    omega)]
  show shapeCast S110x64x5888 _ shapeCasts_S7040x5888_S110x64x5888 (ix3 g q j)
    * broadcastInDim S110x64x5888 _ bcast_S110x1x5888_S110x64x5888_0_1_2 _ (ix3 g q j) = _
  congr 1
  · rw [shapeCast_apply _ _ _ (ix2 k j) (by
      rw [Shape.rowMajor_val_three, Shape.rowMajor_val_two]
      show k.val * 5888 + j.val = (k.val / 64 * 64 + k.val % 64) * 5888 + j.val
      omega)]
    rfl
  · rw [broadcastInDim_apply _ bcast_S110x1x5888_S110x64x5888_0_1_2 _ _ (ix3 g (0 : Fin 1) j) (by
      intro a
      match a with
      | ⟨0, _⟩ => rfl
      | ⟨1, _⟩ => rfl
      | ⟨2, _⟩ => rfl)]
    exact broadcastInDim_apply _ bcast_S110x5888_S110x1x5888_0_2 _ _ (ix2 g j) (by
      intro a
      match a with
      | ⟨0, _⟩ => rfl
      | ⟨1, _⟩ => rfl)

/-- The reference's low nibble. -/
theorem ref_low (w : BitVec 8) :
    (((IntOp.shrsi .host (IntOp.shli .host (w.setWidth 32) 28#32) 28#32).toInt : ℝ) : EReal) = nib w 0 := by
  have h : ∀ v : BitVec 8, (IntOp.shrsi .host (IntOp.shli .host (v.setWidth 32) 28#32) 28#32).toInt = (v.setWidth 4).toInt := by
    decide +kernel
  rw [h]
  rfl

/-- The reference's high nibble. -/
theorem ref_high (w : BitVec 8) :
    (((IntOp.shrsi .host (IntOp.shli .host (w.setWidth 32) 24#32) 28#32).toInt : ℝ) : EReal) = nib w 1 := by
  have h : ∀ v : BitVec 8, (IntOp.shrsi .host (IntOp.shli .host (v.setWidth 32) 24#32) 28#32).toInt
      = ((v >>> 4).setWidth 4).toInt := by
    decide +kernel
  rw [h]
  rfl

/-! ## The two products -/

/-- A product of activations and weights at an index. -/
theorem wtDot_apply (A : FVec Ideal S128x1x7040 .bf16) (B : FVec Ideal S7040x5888 .bf16) (r : Fin 128) (j : Fin 5888) :
    Host.dotGeneral dot_S128x1x7040_S7040x5888_S128x1x5888_2_0_01_1_n_n none A B (ix3 r (0 : Fin 1) j)
      = ∑ k : Fin 7040, A (ix3 r (0 : Fin 1) k) * B (ix2 k j) := by
  show FloatOps.dotGeneral _ _ _ A B _ = _
  rw [Ideal.dotGeneral_apply,
    ← Equiv.sum_comp (contrEquiv1 dot_S128x1x7040_S7040x5888_S128x1x5888_2_0_01_1_n_n 7040 rfl rfl).symm]
  refine Finset.sum_congr rfl fun p _ => ?_
  have hp := contrEquiv1_symm_val dot_S128x1x7040_S7040x5888_S128x1x5888_2_0_01_1_n_n 7040 rfl rfl p
  congr 1
  · congr 1
    funext a
    apply Fin.ext
    match a with
    | ⟨0, _⟩ => rfl
    | ⟨1, _⟩ => rfl
    | ⟨2, _⟩ => exact hp
  · congr 1
    funext a
    apply Fin.ext
    match a with
    | ⟨0, _⟩ => exact hp
    | ⟨1, _⟩ => rfl

/-- The reference's result, over its named parts. -/
def refOut (x : Vec Ideal S128x1x14080 .bf16) (w : Vec Ideal S7040x5888 .i8) (s : Vec Ideal S110x5888 .bf16) :
    FVec Ideal S128x5888 .bf16 :=
  shapeCast _ (truncf .bf16 (addf
    (Host.dotGeneral (φ₁ := .bf16) (φ₂ := .bf16) dot_S128x1x7040_S7040x5888_S128x1x5888_2_0_01_1_n_n none (Host.slice S128x1x7040 ![0, 0, 0] ![1, 1, 2] (refRot x) slicesBy_S128x1x14080_S128x1x7040_0s1_0s1_0s2) (refWt 28#32 w s))
    (Host.dotGeneral (φ₁ := .bf16) (φ₂ := .bf16) dot_S128x1x7040_S7040x5888_S128x1x5888_2_0_01_1_n_n none (Host.slice S128x1x7040 ![0, 0, 1] ![1, 1, 2] (refRot x) slicesBy_S128x1x14080_S128x1x7040_0s1_0s1_1s2) (refWt 24#32 w s)))
    bitsLt_bf16_f32) shapeCasts_S128x1x5888_S128x5888

/-- The reference's result at an index. -/
theorem refOut_apply (x : Vec Ideal S128x1x14080 .bf16) (w : Vec Ideal S7040x5888 .i8) (s : Vec Ideal S110x5888 .bf16)
    (r : Fin 128) (j : Fin 5888) : refOut x w s (ix2 r j) = entry x w s r j := by
  unfold refOut
  rw [shapeCast_apply _ _ _ (ix3 r (0 : Fin 1) j) (by
    rw [Shape.rowMajor_val_three, Shape.rowMajor_val_two]
    show (r.val * 1 + 0) * 5888 + j.val = r.val * 5888 + j.val
    omega)]
  show Host.dotGeneral (φ₁ := .bf16) (φ₂ := .bf16) _ none _ (refWt 28#32 w s) _
    + Host.dotGeneral (φ₁ := .bf16) (φ₂ := .bf16) _ none _ (refWt 24#32 w s) _ = _
  rw [wtDot_apply, wtDot_apply]
  unfold entry
  rw [sum_even_odd (show 14080 = 7040 * 2 from rfl)]
  have hslice : ∀ (o : ℕ) (h : S128x1x14080.SlicesBy ![0, 0, o] ![1, 1, 2] S128x1x7040) (k : Fin 7040) (ho : 2 * k.val + o < 14080),
      Host.slice S128x1x7040 ![0, 0, o] ![1, 1, 2] (refRot x) h (ix3 r (0 : Fin 1) k)
        = rot (acts x) r ⟨2 * k.val + o, ho⟩ := by
    intro o h k ho
    rw [← refRot_apply]
    show refRot x _ = refRot x _
    congr 1
    funext a
    apply Fin.ext
    match a with
    | ⟨0, _⟩ => show 0 + 1 * r.val = r.val; omega
    | ⟨1, _⟩ => rfl
    | ⟨2, _⟩ => show o + 2 * k.val = 2 * k.val + o; omega
  congr 1
  · refine Finset.sum_congr rfl fun k _ => ?_
    have hk := k.isLt
    rw [hslice 0 _ k (by omega), refWt_apply, ref_low]
    congr 2
    · show nib _ 0 = nib _ (2 * k.val % 2)
      rw [show 2 * k.val % 2 = 0 from by omega]
      congr 3
      exact Fin.ext (show k.val = 2 * k.val / 2 by omega)
    · congr 2
      exact Fin.ext (show k.val / 64 = 2 * k.val / 128 by omega)
  · refine Finset.sum_congr rfl fun k _ => ?_
    have hk := k.isLt
    rw [hslice 1 _ k (by omega), refWt_apply, ref_high]
    congr 2
    · show nib _ 1 = nib _ ((2 * k.val + 1) % 2)
      rw [show (2 * k.val + 1) % 2 = 1 from by omega]
      congr 3
      exact Fin.ext (show k.val = (2 * k.val + 1) / 2 by omega)
    · congr 2
      exact Fin.ext (show k.val / 64 = (2 * k.val + 1) / 128 by omega)

/-- The reference's result array is the named one. -/
theorem res_eq (m : (ℓ : Loc nD τ sig) → Buf (Elt Ideal) ℓ) (c : Dev nD) :
    (res_out0 m c : Vec Ideal S128x5888 .bf16)
      = refOut (m ((c : Thread nD τ).loc main_arg0)) (m ((c : Thread nD τ).loc main_arg1))
          (m ((c : Thread nD τ).loc main_arg2)) := by
  unfold res_out0 res_main_v42
  rfl

end Cert.Hand

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Hand.KernelValue
public import proofs.«01_k».proof.Proof.Hand.Reference
public import Idealize.ShloMosaic.Lib.Quiescent

@[expose] public section

noncomputable section

namespace Cert.Proof

open Idealize.ShloMosaic Idealize.ShloMosaic.ValueIdx Idealize.SL.Sem

/-- The reference runs, leaves its arguments alone, and its counters end at zero: it has no semaphore. -/
theorem quiescent_reference : Cert.quiescent_ReferenceIdeal (hReferenceIdeal := Cert.ReferenceIdeal.Gen.facts) :=
  fun m ρ _ => (θ_run Cert.ReferenceIdeal.defs _ _).mono
    (fun r h => ⟨fun c => ⟨(h c).2.1, (h c).2.2.1, (h c).2.2.2⟩,
      Idealize.ShloMosaic.sem_eq_zero_of_no_sems (by decide) r.2⟩)
    (Cert.ReferenceIdeal.Value.run m ρ)

/-- From memories that agree on the arguments, the kernel and the reference end with the same array. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G3 m c, Cert.KernelIdeal.Value.run m g,
    (θ_run Cert.ReferenceIdeal.defs _ _).mono (fun r h c => ⟨(h c).1.trans ?_, (h c).2⟩)
      (Cert.ReferenceIdeal.Value.run m' g')⟩
  obtain ⟨e0, e1, e2⟩ := hargs c
  refine (Cert.Hand.res_eq m' c).trans ?_
  funext i
  obtain ⟨r, j, rfl⟩ : ∃ (r : Fin 128) (j : Fin 5888), i = ix2 r j := ⟨i 0, i 1, eq_ix2 i⟩
  refine (Cert.Hand.refOut_apply _ _ _ r j).trans (Eq.trans ?_ (Cert.Hand.G3_apply m c r j).symm)
  rw [e0, e1, e2]

/-- The certificate's claim. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  quiescent_reference,
  trivial,
  algebraic⟩

end Cert.Proof

end
